-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.HalfStatement Cert.KernelIdeal.S64x512
  ∧ IdealRules.bf16_pair.Statement Cert.KernelIdeal.S16x512 Cert.KernelIdeal.S8x512

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S256x1x8192 : Shape := ⟨3, ![256, 1, 8192]⟩
abbrev S4096x7168 : Shape := ⟨2, ![4096, 7168]⟩
abbrev S64x7168 : Shape := ⟨2, ![64, 7168]⟩
abbrev S8192 : Shape := ⟨1, ![8192]⟩
abbrev S_ : Shape := ⟨0, ![]⟩

class Facts : Prop where
  bcast_S_S256x1x8192 : S_.BroadcastsInDim S256x1x8192 (![] : Fin 0 → Fin S256x1x8192.rank)
  bcast_S_S8192 : S_.BroadcastsInDim S8192 (![] : Fin 0 → Fin S8192.rank)

variable [Facts]

def fn {F : FTy → Type} [FloatOps F] (main_arg0 : FVec F S256x1x8192 .bf16) (main_arg1 : IVec S4096x7168 8) (main_arg2 : FVec F S64x7168 .bf16) (main_arg3 : FVec F S8192 .f32) : IVec S256x1x8192 1 × IVec S8192 1 :=
  let main_v0 : FVec F S256x1x8192 .bf16 := Host.absf main_arg0
  let main_cst : FVec F S_ .bf16 := constant S_ .bf16 0x7F80#16
  let main_v1 : FVec F S256x1x8192 .bf16 := broadcastInDim S256x1x8192 ![] bcast_S_S256x1x8192 main_cst
  let main_v2 : IVec S256x1x8192 1 := cmpf .olt main_v0 main_v1
  let main_v3 : FVec F S8192 .f32 := Host.absf main_arg3
  let main_cst_0 : FVec F S_ .f32 := constant S_ .f32 0x7F800000#32
  let main_v4 : FVec F S8192 .f32 := broadcastInDim S8192 ![] bcast_S_S8192 main_cst_0
  let main_v5 : IVec S8192 1 := cmpf .olt main_v3 main_v4
  (main_v2, main_v5)
-- ==== Kernel.lean ====
abbrev S256x1x8192 : Shape := ⟨3, ![256, 1, 8192]⟩
abbrev S4096x7168 : Shape := ⟨2, ![4096, 7168]⟩
abbrev S64x7168 : Shape := ⟨2, ![64, 7168]⟩
abbrev S8192 : Shape := ⟨1, ![8192]⟩
abbrev S256x8192 : Shape := ⟨2, ![256, 8192]⟩
abbrev S1x8192 : Shape := ⟨2, ![1, 8192]⟩
abbrev S256x7168 : Shape := ⟨2, ![256, 7168]⟩
abbrev S4096x512 : Shape := ⟨2, ![4096, 512]⟩
abbrev S64x512 : Shape := ⟨2, ![64, 512]⟩
abbrev S256x512 : Shape := ⟨2, ![256, 512]⟩
abbrev S8192x512 : Shape := ⟨2, ![8192, 512]⟩
abbrev S256x256 : Shape := ⟨2, ![256, 256]⟩
abbrev S256x128 : Shape := ⟨2, ![256, 128]⟩
abbrev S1x128 : Shape := ⟨2, ![1, 128]⟩
abbrev S32x512 : Shape := ⟨2, ![32, 512]⟩
abbrev S128x512 : Shape := ⟨2, ![128, 512]⟩
abbrev S1x512 : Shape := ⟨2, ![1, 512]⟩
abbrev S8x512 : Shape := ⟨2, ![8, 512]⟩
abbrev S16x512 : Shape := ⟨2, ![16, 512]⟩
abbrev S16x16x512 : Shape := ⟨3, ![16, 16, 512]⟩
abbrev S1x16x512 : Shape := ⟨3, ![1, 16, 512]⟩

abbrev nBuf : Space → Nat
  | .hbm => 7
  | .vmem => 10
  | .smem => 0
  | _ => 0

abbrev bufTy : (tb : Table) → Fin (tcTables nBuf tb) → BufTy
  | .hbm, ⟨0, _⟩ => ⟨S256x1x8192, .bf16⟩
  | .hbm, ⟨1, _⟩ => ⟨S4096x7168, .i8⟩
  | .hbm, ⟨2, _⟩ => ⟨S64x7168, .bf16⟩
  | .hbm, ⟨3, _⟩ => ⟨S8192, .f32⟩
  | .hbm, ⟨4, _⟩ => ⟨S256x8192, .bf16⟩
  | .hbm, ⟨5, _⟩ => ⟨S1x8192, .f32⟩
  | .hbm, ⟨6, _⟩ => ⟨S256x7168, .bf16⟩
  | .local _ .vmem, ⟨0, _⟩ => ⟨S256x8192, .bf16⟩
  | .local _ .vmem, ⟨1, _⟩ => ⟨S4096x512, .i8⟩
  | .local _ .vmem, ⟨2, _⟩ => ⟨S4096x512, .i8⟩
  | .local _ .vmem, ⟨3, _⟩ => ⟨S64x512, .bf16⟩
  | .local _ .vmem, ⟨4, _⟩ => ⟨S64x512, .bf16⟩
  | .local _ .vmem, ⟨5, _⟩ => ⟨S1x8192, .f32⟩
  | .local _ .vmem, ⟨6, _⟩ => ⟨S256x512, .bf16⟩
  | .local _ .vmem, ⟨7, _⟩ => ⟨S256x512, .bf16⟩
  | .local _ .vmem, ⟨8, _⟩ => ⟨S256x8192, .bf16⟩
  | .local _ .vmem, ⟨9, _⟩ => ⟨S8192x512, .bf16⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S256x1x8192 : Shape := ⟨3, ![256, 1, 8192]⟩
abbrev S4096x7168 : Shape := ⟨2, ![4096, 7168]⟩
abbrev S64x7168 : Shape := ⟨2, ![64, 7168]⟩
abbrev S8192 : Shape := ⟨1, ![8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x1x8192 : Shape := ⟨3, ![1, 1, 8192]⟩
abbrev S256x64x128 : Shape := ⟨3, ![256, 64, 128]⟩
abbrev S256x32x128 : Shape := ⟨3, ![256, 32, 128]⟩
abbrev S4096x3584 : Shape := ⟨2, ![4096, 3584]⟩
abbrev S64x3584 : Shape := ⟨2, ![64, 3584]⟩
abbrev S32x3584 : Shape := ⟨2, ![32, 3584]⟩
abbrev S32x128x3584 : Shape := ⟨3, ![32, 128, 3584]⟩
abbrev S32x1x3584 : Shape := ⟨3, ![32, 1, 3584]⟩
abbrev S256x3584 : Shape := ⟨2, ![256, 3584]⟩
abbrev S256x7168 : Shape := ⟨2, ![256, 7168]⟩

abbrev nBuf : Space → Nat
  | .hbm => 98
  | .vmem => 0
  | .smem => 0
  | _ => 0

abbrev bufTy : (tb : Table) → Fin (tcTables nBuf tb) → BufTy
  | .hbm, ⟨0, _⟩ => ⟨S256x1x8192, .bf16⟩
  | .hbm, ⟨1, _⟩ => ⟨S4096x7168, .i8⟩
  | .hbm, ⟨2, _⟩ => ⟨S64x7168, .bf16⟩
  | .hbm, ⟨3, _⟩ => ⟨S8192, .f32⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S256x1x8192, .f32⟩
  | .hbm, ⟨25, _⟩ => ⟨S1x1x8192, .f32⟩
  | .hbm, ⟨26, _⟩ => ⟨S256x1x8192, .f32⟩
  | .hbm, ⟨27, _⟩ => ⟨S256x1x8192, .f32⟩
  | .hbm, ⟨28, _⟩ => ⟨S256x64x128, .f32⟩
  | .hbm, ⟨29, _⟩ => ⟨S256x64x128, .f32⟩
  | .hbm, ⟨30, _⟩ => ⟨S256x64x128, .bf16⟩
  | .hbm, ⟨31, _⟩ => ⟨S256x32x128, .bf16⟩
  | .hbm, ⟨32, _⟩ => ⟨S256x32x128, .bf16⟩
  | .hbm, ⟨33, _⟩ => ⟨S4096x3584, .i8⟩
  | .hbm, ⟨34, _⟩ => ⟨S64x3584, .bf16⟩
  | .hbm, ⟨35, _⟩ => ⟨S4096x3584, .i32⟩
  | .hbm, ⟨36, _⟩ => ⟨S_, .i32⟩
  | .hbm, ⟨37, _⟩ => ⟨S4096x3584, .i32⟩
  | .hbm, ⟨38, _⟩ => ⟨S4096x3584, .i32⟩
  | .hbm, ⟨39, _⟩ => ⟨S_, .i32⟩
  | .hbm, ⟨40, _⟩ => ⟨S4096x3584, .i32⟩
  | .hbm, ⟨41, _⟩ => ⟨S4096x3584, .i32⟩
  | .hbm, ⟨42, _⟩ => ⟨S32x3584, .bf16⟩
  | .hbm, ⟨43, _⟩ => ⟨S4096x3584, .bf16⟩
  | .hbm, ⟨44, _⟩ => ⟨S32x128x3584, .bf16⟩
  | .hbm, ⟨45, _⟩ => ⟨S32x1x3584, .bf16⟩
  | .hbm, ⟨46, _⟩ => ⟨S32x128x3584, .bf16⟩
  | .hbm, ⟨47, _⟩ => ⟨S32x128x3584, .bf16⟩
  | .hbm, ⟨48, _⟩ => ⟨S4096x3584, .i32⟩
  | .hbm, ⟨49, _⟩ => ⟨S_, .i32⟩
  | .hbm, ⟨50, _⟩ => ⟨S4096x3584, .i32⟩
  | .hbm, ⟨51, _⟩ => ⟨S4096x3584, .i32⟩
  | .hbm, ⟨52, _⟩ => ⟨S_, .i32⟩
  | .hbm, ⟨53, _⟩ => ⟨S4096x3584, .i32⟩
  | .hbm, ⟨54, _⟩ => ⟨S4096x3584, .i32⟩
  | .hbm, ⟨55, _⟩ => ⟨S32x3584, .bf16⟩
  | .hbm, ⟨56, _⟩ => ⟨S4096x3584, .bf16⟩
  | .hbm, ⟨57, _⟩ => ⟨S32x128x3584, .bf16⟩
  | .hbm, ⟨58, _⟩ => ⟨S32x1x3584, .bf16⟩
  | .hbm, ⟨59, _⟩ => ⟨S32x128x3584, .bf16⟩
  | .hbm, ⟨60, _⟩ => ⟨S32x128x3584, .bf16⟩
  | .hbm, ⟨61, _⟩ => ⟨S256x3584, .f32⟩
  | .hbm, ⟨62, _⟩ => ⟨S256x3584, .f32⟩
  | .hbm, ⟨63, _⟩ => ⟨S256x3584, .f32⟩
  | .hbm, ⟨64, _⟩ => ⟨S256x3584, .bf16⟩
  | .hbm, ⟨65, _⟩ => ⟨S4096x3584, .i8⟩
  | .hbm, ⟨66, _⟩ => ⟨S64x3584, .bf16⟩
  | .hbm, ⟨67, _⟩ => ⟨S4096x3584, .i32⟩
  | .hbm, ⟨68, _⟩ => ⟨S_, .i32⟩
  | .hbm, ⟨69, _⟩ => ⟨S4096x3584, .i32⟩
  | .hbm, ⟨70, _⟩ => ⟨S4096x3584, .i32⟩
  | .hbm, ⟨71, _⟩ => ⟨S_, .i32⟩
  | .hbm, ⟨72, _⟩ => ⟨S4096x3584, .i32⟩
  | .hbm, ⟨73, _⟩ => ⟨S4096x3584, .i32⟩
  | .hbm, ⟨74, _⟩ => ⟨S32x3584, .bf16⟩
  | .hbm, ⟨75, _⟩ => ⟨S4096x3584, .bf16⟩
  | .hbm, ⟨76, _⟩ => ⟨S32x128x3584, .bf16⟩
  | .hbm, ⟨77, _⟩ => ⟨S32x1x3584, .bf16⟩
  | .hbm, ⟨78, _⟩ => ⟨S32x128x3584, .bf16⟩
  | .hbm, ⟨79, _⟩ => ⟨S32x128x3584, .bf16⟩
  | .hbm, ⟨80, _⟩ => ⟨S4096x3584, .i32⟩
  | .hbm, ⟨81, _⟩ => ⟨S_, .i32⟩
  | .hbm, ⟨82, _⟩ => ⟨S4096x3584, .i32⟩
  | .hbm, ⟨83, _⟩ => ⟨S4096x3584, .i32⟩
  | .hbm, ⟨84, _⟩ => ⟨S_, .i32⟩
  | .hbm, ⟨85, _⟩ => ⟨S4096x3584, .i32⟩
  | .hbm, ⟨86, _⟩ => ⟨S4096x3584, .i32⟩
  | .hbm, ⟨87, _⟩ => ⟨S32x3584, .bf16⟩
  | .hbm, ⟨88, _⟩ => ⟨S4096x3584, .bf16⟩
  | .hbm, ⟨89, _⟩ => ⟨S32x128x3584, .bf16⟩
  | .hbm, ⟨90, _⟩ => ⟨S32x1x3584, .bf16⟩
  | .hbm, ⟨91, _⟩ => ⟨S32x128x3584, .bf16⟩
  | .hbm, ⟨92, _⟩ => ⟨S32x128x3584, .bf16⟩
  | .hbm, ⟨93, _⟩ => ⟨S256x3584, .f32⟩
  | .hbm, ⟨94, _⟩ => ⟨S256x3584, .f32⟩
  | .hbm, ⟨95, _⟩ => ⟨S256x3584, .f32⟩
  | .hbm, ⟨96, _⟩ => ⟨S256x3584, .bf16⟩
  | .hbm, ⟨97, _⟩ => ⟨S256x7168, .bf16⟩
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c_6 : Ref sig .tc := ⟨.hbm, 68, rfl⟩
abbrev main_v56 : Ref sig .tc := ⟨.hbm, 69, rfl⟩
abbrev main_v57 : Ref sig .tc := ⟨.hbm, 70, rfl⟩
abbrev main_c_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_c_8 : Ref sig .tc := ⟨.hbm, 81, rfl⟩
abbrev main_v67 : Ref sig .tc := ⟨.hbm, 82, rfl⟩
abbrev main_v68 : Ref sig .tc := ⟨.hbm, 83, rfl⟩
abbrev main_c_9 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Proof.Weights.lean ====
module

public import proofs.«01_k».proof.Proof.Gen.KernelIdeal.Skeleton
public import Idealize.ShloMosaic.Lib.BitcastPair
public import Idealize.ShloMosaic.Lib.Pointwise

@[expose] public section

set_option maxRecDepth 16384

noncomputable section

open Idealize.ShloMosaic Idealize.ShloMosaic.TcCoe Idealize.SL.Sem

namespace Cert.Proof

open Cert.KernelIdeal Cert.KernelIdeal.Gen

/-- The sixteen-bit rows of one block of the packed weights: each byte's two four-bit codes, sign-extended, the
    low one in the even row and the high one in the odd row. -/
def codeRows (v11 : IVec S128x512 8) : IVec S256x512 16 :=
  have v12 : IVec S128x512 32 := extui 32 v11 natLt_8_32
  bitcast S256x512 16
    (ori (andi (shrsi (shli v12 (broadcast S128x512 28#32)) (broadcast S128x512 28#32)) (broadcast S128x512 65535#32))
      (shli (shrsi (shli v12 (broadcast S128x512 24#32)) (broadcast S128x512 28#32)) (broadcast S128x512 16#32)))
    bitcasts_S128x512_w32_S256x512_w16

/-- One row laid out eight times. -/
def eightRows {F : FTy → Type} [FloatOps F] (l : FVec F S1x512 .bf16) : FVec F S8x512 .bf16 :=
  concatenate S8x512 0 [⟨S1x512, l⟩, ⟨S1x512, l⟩, ⟨S1x512, l⟩, ⟨S1x512, l⟩, ⟨S1x512, l⟩, ⟨S1x512, l⟩, ⟨S1x512, l⟩, ⟨S1x512, l⟩] concatenates_S1x512_S1x512_S1x512_S1x512_S1x512_S1x512_S1x512_S1x512_S8x512_d0

/-- The scale rows of group `k`: the group's low scale and its high scale, alternating over sixteen rows. -/
def scaleRows {F : FTy → Type} [FloatOps F] (k : ℕ) (h : S32x512.Slices ![k, 0] S1x512) (lo hi : FVec F S32x512 .bf16) : FVec F S16x512 .bf16 :=
  interleaveRows S16x512 (eightRows (extractStridedSlice S1x512 ![k, 0] lo h)) (eightRows (extractStridedSlice S1x512 ![k, 0] hi h))
    bitcasts_S16x512_w16_S8x512_w32

/-- Block `k` of the unpacked weights, as the kernel computes it. -/
def weightBlock {F : FTy → Type} [FloatOps F] (k : ℕ) (h : S32x512.Slices ![k, 0] S1x512) (v3 : Vec F S64x512 .bf16) (v11 : Vec F S128x512 .i8) : FVec F S256x512 .bf16 :=
  shapeCast S256x512 (shapeCast S256x512
    (mulf (shapeCast S16x16x512 (sitofp (F := F) .bf16 (codeRows v11)) shapeCasts_S256x512_S16x16x512)
      (broadcastTo S16x16x512 (shapeCast S1x16x512 (scaleRows k h (k0_pay110 v3) (k0_pay111 v3)) shapeCasts_S16x512_S1x16x512) broadcasts_S1x16x512_S16x16x512))
    shapeCasts_S16x16x512_S256x512) shapeCasts_S256x512_S256x512

/-- The four-bit code of a byte: its low half (`a = 0`) or its high half, read as a signed number. -/
def code (a : ℕ) (b : BitVec 8) : EReal :=
  ((((b.setWidth 32 <<< (if a = 0 then 28 else 24)).sshiftRight 28).toInt : ℝ) : EReal)

/-- The unpacked weights as one array of the packed block `p` and the scale block `s`: row `256 g + 2 i + a` is code `a` of
    packed row `128 g + i`, times scale row `32 a + g`. -/
def weights (p : Vec Ideal S4096x512 .i8) (s : Vec Ideal S64x512 .bf16) : Vec Ideal S8192x512 .bf16 := fun y =>
  code ((y 0 : ℕ) % 2) (p (ix2 ⟨(y 0 : ℕ) / 256 * 128 + (y 0 : ℕ) % 256 / 2, by have : (y 0 : ℕ) < 8192 := (y 0).isLt; omega⟩ (y 1)))
    * s (ix2 ⟨(y 0 : ℕ) % 2 * 32 + (y 0 : ℕ) / 256, by have : (y 0 : ℕ) < 8192 := (y 0).isLt; omega⟩ (y 1))

/-- Each sixteen-bit row, read as a signed number, is a four-bit code: for every byte, by computing. -/
theorem codeWord_lo : ∀ b : BitVec 8,
    ((IntOp.ori (IntOp.andi (IntOp.shrsi .vector (IntOp.shli .vector (b.setWidth 32) 28#32) 28#32) 65535#32)
      (IntOp.shli .vector (IntOp.shrsi .vector (IntOp.shli .vector (b.setWidth 32) 24#32) 28#32) 16#32)).extractLsb' 0 16).toInt
      = ((b.setWidth 32 <<< 28).sshiftRight 28).toInt := by decide +kernel

/-- The same of the upper sixteen bits and the high code. -/
theorem codeWord_hi : ∀ b : BitVec 8,
    ((IntOp.ori (IntOp.andi (IntOp.shrsi .vector (IntOp.shli .vector (b.setWidth 32) 28#32) 28#32) 65535#32)
      (IntOp.shli .vector (IntOp.shrsi .vector (IntOp.shli .vector (b.setWidth 32) 24#32) 28#32) 16#32)).extractLsb' 16 16).toInt
      = ((b.setWidth 32 <<< 24).sshiftRight 28).toInt := by decide +kernel

/-- Row `r` of a block's sixteen-bit rows, as a number, is code `r % 2` of packed row `r / 2`. -/
theorem codeRows_apply (v11 : IVec S128x512 8) (r : Fin 256) (n : Fin 512) :
    (((codeRows v11 (ix2 r n)).toInt : ℝ) : EReal) = code ((r : ℕ) % 2) (v11 (ix2 ⟨(r : ℕ) / 2, by omega⟩ n)) := by
  unfold codeRows
  rw [bitcast_32_16]
  have hs : ∀ hp, (bitcasts_S128x512_w32_S256x512_w16).srcIdx (ix2 r n) (S256x512.row (ix2 r n) / 2) hp = (ix2 ⟨(r : ℕ) / 2, by omega⟩ n : S128x512.Idx) := by
    intro hp
    funext a
    match a with
    | ⟨0, _⟩ => rfl
    | ⟨1, _⟩ => rfl
  rw [hs, show S256x512.row (ix2 r n) = (r : ℕ) from rfl]
  generalize hb : v11 (ix2 ⟨(r : ℕ) / 2, _⟩ n) = b
  simp only [ori, andi, shrsi, shli, extui, broadcast, hb]
  unfold code
  rcases Nat.mod_two_eq_zero_or_one (r : ℕ) with e | e
  · rw [e]; exact congrArg (fun z : ℤ => ((z : ℝ) : EReal)) (codeWord_lo b)
  · rw [e]; exact congrArg (fun z : ℤ => ((z : ℝ) : EReal)) (codeWord_hi b)

/-- One row laid out eight times is that row at each of the eight. -/
theorem eightRows_apply (l : FVec Ideal S1x512 .bf16) (q : Fin 8) (n : Fin 512) : eightRows (F := Ideal) l (ix2 q n) = l (ix2 0 n) := by
  pointwise [eightRows]
  split_ifs <;> exact congrArg (fun z => l (ix2 z n)) (Subsingleton.elim _ _)

/-- Row `q` of group `k`'s scale rows: scale row `k` of the low half at an even `q`, of the high half at an odd one. -/
theorem scaleRows_apply (k : ℕ) (hk : k < 32) (h : S32x512.Slices ![k, 0] S1x512) (v3 : Vec Ideal S64x512 .bf16) (q : Fin 16) (n : Fin 512) :
    scaleRows (F := Ideal) k h (k0_pay110 v3) (k0_pay111 v3) (ix2 q n) = v3 (ix2 ⟨(q : ℕ) % 2 * 32 + k, by omega⟩ n) := by
  pointwise [scaleRows, eightRows_apply, k0_pay110, k0_pay111]
  rcases Nat.mod_two_eq_zero_or_one (q : ℕ) with e | e
  · rw [if_pos e]; exact congrArg (fun z => v3 (ix2 z n)) (Fin.ext (by dsimp only; omega))
  · rw [if_neg (by omega)]; exact congrArg (fun z => v3 (ix2 z n)) (Fin.ext (by dsimp only; omega))

/-- An element of block `k` of the unpacked weights. -/
theorem weightBlock_apply (k : ℕ) (hk : k < 32) (h : S32x512.Slices ![k, 0] S1x512) (v3 : Vec Ideal S64x512 .bf16) (v11 : Vec Ideal S128x512 .i8)
    (r : Fin 256) (n : Fin 512) :
    weightBlock (F := Ideal) k h v3 v11 (ix2 r n) = code ((r : ℕ) % 2) (v11 (ix2 ⟨(r : ℕ) / 2, by omega⟩ n)) * v3 (ix2 ⟨(r : ℕ) % 2 * 32 + k, by omega⟩ n) := by
  pointwise [weightBlock]
  rw [scaleRows_apply k hk, ← codeRows_apply]
  congr 1
  exact congrArg (fun z => v3 (ix2 z n)) (Fin.ext (by dsimp only; omega))

/-- Block `k` computed from rows `128 k …` of the packed block is rows `256 k …` of the unpacked weights. -/
theorem weightBlock_eq_weights (k : ℕ) (hk : k < 32) (h : S32x512.Slices ![k, 0] S1x512) (inb : ∀ a, (![128 * k, 0] : Fin 2 → ℕ) a + S128x512.size a ≤ S4096x512.size a)
    (inb' : ∀ a, (![256 * k, 0] : Fin 2 → ℕ) a + S256x512.size a ≤ S8192x512.size a)
    (p : Vec Ideal S4096x512 .i8) (s : Vec Ideal S64x512 .bf16) (x : S256x512.Idx) :
    weightBlock (F := Ideal) k h s (View.ld p (Rect.unit ![128 * k, 0] S128x512.size inb)) x
      = weights p s ((Rect.unit (s := S8192x512) ![256 * k, 0] S256x512.size inb').emb x) := by
  obtain ⟨r, n, rfl⟩ : ∃ (r : Fin 256) (n : Fin 512), x = ix2 r n := ⟨x 0, x 1, eq_ix2 x⟩
  rw [weightBlock_apply k hk]
  have h0 : (((Rect.unit (s := S8192x512) ![256 * k, 0] S256x512.size inb').emb (ix2 r n) : S8192x512.Idx) 0 : ℕ) = 256 * k + r := by
    show 256 * k + 1 * (r : ℕ) = _; omega
  have h1 : (((Rect.unit (s := S8192x512) ![256 * k, 0] S256x512.size inb').emb (ix2 r n) : S8192x512.Idx) 1 : Fin 512) = n :=
    Fin.ext (by show 0 + 1 * (n : ℕ) = n; omega)
  unfold weights
  rw [h1]
  simp only [h0]
  have e : (256 * k + (r : ℕ)) % 2 = (r : ℕ) % 2 := by omega
  simp only [e]
  refine congrArg₂ (· * ·) (congrArg _ ?_) ?_
  · pointwise
    exact congrArg (fun z => p (ix2 z n)) (Fin.ext (by dsimp only; omega))
  · exact congrArg (fun z => s (ix2 z n)) (Fin.ext (by dsimp only; omega))

end Cert.Proof
-- ==== Proof.PointB.lean ====
module

public import proofs.«01_k».proof.Proof.Weights
public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL.Sem

namespace Cert.Proof

open Cert.KernelIdeal Cert.KernelIdeal.Gen

/-- The offsets of a whole-array load or store are all zero. -/
theorem hz : (![0, 0] : Fin 2 → ℕ) = fun _ => 0 := funext fun a => by fin_cases a <;> rfl

/-- A whole load of an array that was stored in pieces, each of them the same function of the array index, reads
    that function. -/
theorem readCov_of_pieces {Val : EltTy → Type} [∀ e, Nonempty (Val e)] {sig : RefSig} {κ : Kind} {sp : Space} {S : Shape} {e : EltTy}
    (v : View sig κ sp S e) {off : Fin S.rank → ℕ} (hoff : off = fun _ => 0) (inb : ∀ a, off a + S.size a ≤ S.size a)
    (L : List (View.Piece Val S e)) (G : S.Idx → Val e) (hc : ∀ y, ∃ p ∈ L, y ∈ p.1.set)
    (h : ∀ p ∈ L, ∀ x : p.1.shape.Idx, p.2 x = G (p.1.emb x)) :
    v.readCov L (Rect.unit off S.size inb).toLoadRect = G := by
  rw [View.readCov_eq_canon_ld _ _ _ hc, View.ld_unit_zero hoff]
  exact funext fun y => View.canon_apply_of_pieces G L h y (hc y)

/-- Row `k` can be cut out of the 32 scale rows. -/
theorem slices_row (k : Fin 32) : S32x512.Slices ![(k : ℕ), 0] S1x512 := by revert k; decide
/-- The 128 packed rows of group `k` lie in the packed block. -/
theorem packed_inb (k : Fin 32) : ∀ a, (![128 * (k : ℕ), 0] : Fin 2 → ℕ) a + S128x512.size a ≤ S4096x512.size a := by revert k; decide
/-- The 256 unpacked rows of group `k` lie in the weight array. -/
theorem weights_inb (k : Fin 32) : ∀ a, (![256 * (k : ℕ), 0] : Fin 2 → ℕ) a + S256x512.size a ≤ S8192x512.size a := by revert k; decide

variable {F : FTy → Type} [FloatOps F]

/-- Block `k` of the unpacked weights, as a store into the weight array. -/
def weightPiece (p : Vec F S4096x512 .i8) (s : Vec F S64x512 .bf16) (k : Fin 32) : View.Piece (Elt F) S8192x512 .bf16 :=
  ⟨Rect.unit (s := S8192x512) ![256 * (k : ℕ), 0] S256x512.size (weights_inb k),
    weightBlock (F := F) k (slices_row k) s (View.ld p (Rect.unit ![128 * (k : ℕ), 0] S128x512.size (packed_inb k)))⟩

/-- Each of the 32 stores into the weight array holds the unpacked weights at the rows it covers. -/
theorem weightPieces_apply (p : Vec Ideal S4096x512 .i8) (s : Vec Ideal S64x512 .bf16) :
    ∀ q ∈ (List.finRange 32).reverse.map (weightPiece p s), ∀ x : q.1.shape.Idx, q.2 x = weights p s (q.1.emb x) := by
  intro q hq
  obtain ⟨k, -, rfl⟩ := List.mem_map.1 hq
  exact weightBlock_eq_weights k k.isLt _ (packed_inb k) (weights_inb k) p s

set_option maxHeartbeats 4000000 in
/-- At a point that does not rotate, the output block is the product of the carried activations and the unpacked weights. -/
theorem out_B (c : Dev nD) (i : grid0.Coords) (arg1 : Memref sig .tc .vmem S256x8192 .bf16) (harg1 : arg1.IsWhole) (arg2 : Memref sig .tc .vmem S4096x512 .i8) (harg2 : arg2.IsWhole) (arg3 : Memref sig .tc .vmem S64x512 .bf16) (harg3 : arg3.IsWhole) (arg4 : Memref sig .tc .vmem S1x8192 .f32) (harg4 : arg4.IsWhole) (arg5 : Memref sig .tc .vmem S256x512 .bf16) (harg5 : arg5.IsWhole) (arg6 : Memref sig .tc .vmem S256x8192 .bf16) (harg6 : arg6.IsWhole) (arg7 : Memref sig .tc .vmem S8192x512 .bf16) (harg7 : arg7.IsWhole) (hc0 : ¬cond0_0 i)
    (x0 : Vec Ideal S256x8192 .bf16) (x1 : Vec Ideal S4096x512 .i8) (x2 : Vec Ideal S64x512 .bf16) (x3 : Vec Ideal S1x8192 .f32) (xs0 : Vec Ideal S256x8192 .bf16) :
    out0_B_4 c i arg1 harg1 arg2 harg2 arg3 harg3 arg4 harg4 arg5 harg5 arg6 harg6 arg7 harg7 hc0 x0 x1 x2 x3 xs0 = k0_pay2 xs0 (weights x1 x2) := by
  unfold out0_B_4
  rw [View.read_writes_eq_canon _ _ _ (cover0_B_4 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg2.read_unread, harg3.read_unread, harg6.read_unread, View.ld_unit_zero (S := S64x512) hz, View.ld_unit_zero (S := S256x8192) hz]
  exact congrArg₂ k0_pay2 rfl (readCov_of_pieces (S := S8192x512) _ hz _ _ _ (View.cover_of_tiledL _ S256x512.size (by sl_kernel_rfl)) (weightPieces_apply x1 x2))

end Cert.Proof
-- ==== Proof.Signs.lean ====
module

public import proofs.«01_k».proof.Proof.Gen.KernelIdeal.Skeleton
public import Idealize.ShloMosaic.Lib.Pointwise

@[expose] public section

set_option maxRecDepth 16384

noncomputable section

open Idealize.ShloMosaic

namespace Cert.Proof

open Cert.KernelIdeal Cert.KernelIdeal.Gen

/-- The lowest bit of a word of at most seven bits that is left after xoring it with itself shifted by 4, by 2 and by
    1, as the sign `1 - 2 p` of that bit `p`. -/
def signWord (b : BitVec 32) : BitVec 32 :=
  let b4 := b ^^^ IntOp.shrsi .vector b 4#32
  let b2 := b4 ^^^ IntOp.shrsi .vector b4 2#32
  let b1 := b2 ^^^ IntOp.shrsi .vector b2 1#32
  1#32 - 2#32 * (b1 &&& 1#32)

/-- The Hadamard sign at row `j`, column `i`. -/
def sgn (j i : ℕ) : ℝ := ((signWord (BitVec.ofNat 32 j &&& BitVec.ofNat 32 i)).toInt : ℝ)

/-- The low seven bits of a row number are its place in its half. -/
theorem and_127 (r : Fin 256) : IntOp.andi (BitVec.ofNat 32 r) 127#32 = BitVec.ofNat 32 (r % 128) := by
  revert r; decide +kernel

/-- A column number shifted down by one is half of it. -/
theorem shr_1 (q : Fin 256) : IntOp.shrsi .vector (BitVec.ofNat 32 q) 1#32 = BitVec.ofNat 32 (q / 2) := by
  revert q; decide +kernel

/-- A row number shifted down by seven is the number of its half. -/
theorem shr_7 (r : Fin 256) : IntOp.shrsi .vector (BitVec.ofNat 32 r) 7#32 = BitVec.ofNat 32 (r / 128) := by
  revert r; decide +kernel

/-- The lowest bit of a column number is its parity. -/
theorem and_1 (q : Fin 256) : IntOp.andi (BitVec.ofNat 32 q) 1#32 = BitVec.ofNat 32 (q % 2) := by
  revert q; decide +kernel

/-- The kernel's sign matrix: an entry is zero unless its row lies in the half of the rows that its column's parity
    names, and then it is the Hadamard sign at the row within the half and half the column. -/
theorem pay3_apply (r q : Fin 256) :
    k0_pay3 (F := Ideal) (ix2 r q) = if (r : ℕ) / 128 = q % 2 then ((sgn (r % 128) (q / 2) : ℝ) : EReal) else 0 := by
  unfold k0_pay3
  pointwise
  rw [and_127, shr_1, shr_7, and_1]
  have hs : IntOp.cmpi .eq (BitVec.ofNat 32 ((r : ℕ) / 128)) (BitVec.ofNat 32 ((q : ℕ) % 2)) = if (r : ℕ) / 128 = q % 2 then 1#1 else 0#1 := by
    have e : (BitVec.ofNat 32 ((r : ℕ) / 128) = BitVec.ofNat 32 ((q : ℕ) % 2)) ↔ (r : ℕ) / 128 = q % 2 := by
      constructor
      · intro h
        have h' := congrArg BitVec.toNat h
        simp only [BitVec.toNat_ofNat] at h'
        omega
      · intro h; rw [h]
    by_cases h : (r : ℕ) / 128 = q % 2
    · rw [if_pos h, h]; simp [IntOp.cmpi]
    · rw [if_neg h]
      show BitVec.ofBool (BitVec.ofNat 32 ((r : ℕ) / 128) == BitVec.ofNat 32 ((q : ℕ) % 2)) = 0#1
      rw [beq_eq_false_iff_ne.2 (fun h' => h (e.1 h'))]; rfl
  rw [hs]
  by_cases h : (r : ℕ) / 128 = q % 2
  · rw [if_pos h, if_pos h]; rfl
  · rw [if_neg h, if_neg h]; rfl

end Cert.Proof
-- ==== Proof.Rotation.lean ====
module

public import proofs.«01_k».proof.Proof.Signs

@[expose] public section

set_option maxRecDepth 16384

noncomputable section

open Idealize.ShloMosaic

namespace Cert.Proof

open Cert.KernelIdeal Cert.KernelIdeal.Gen

/-- One rotated block of 256 columns: from 128 columns of each half of the activations and of the signs. -/
def rotBlock {F : FTy → Type} [FloatOps F] (xl : Vec F S256x128 .bf16) (sl : Vec F S1x128 .f32) (xh : Vec F S256x128 .bf16) (sh : Vec F S1x128 .f32) :
    FVec F S256x256 .bf16 :=
  k0_pay6 k0_pay3 (k0_pay4 xl sl) (k0_pay5 xh) sh

/-- The normalising factor of the rotation: the 32-bit float nearest to `128 ^ (-1/2)`. -/
def norm : EReal := Ideal.ofBits .f32 0x3DB504F3#32

/-- The rotated block at row `r`, column `q`, when every product of an activation and its sign cancels against itself:
    the Hadamard sum over the 128 columns of the half that the column's parity names. The two lower parts of the
    three-way split are zero, so only the first part's product is left. -/
theorem rotBlock_apply (xl xh : Vec Ideal S256x128 .bf16) (sl sh : Vec Ideal S1x128 .f32)
    (hl : ∀ r x, xl (ix2 r x) * sl (ix2 0 x) - xl (ix2 r x) * sl (ix2 0 x) = 0)
    (hh : ∀ r x, xh (ix2 r x) * sh (ix2 0 x) - xh (ix2 r x) * sh (ix2 0 x) = 0) (r q : Fin 256) :
    rotBlock (F := Ideal) xl sl xh sh (ix2 r q)
      = (∑ j : Fin 128, (if (q : ℕ) % 2 = 0 then xl (ix2 r j) * sl (ix2 0 j) else xh (ix2 r j) * sh (ix2 0 j)) * ((sgn j (q / 2) : ℝ) : EReal)) * norm := by
  unfold rotBlock k0_pay6 k0_pay5 k0_pay4
  pointwise
  simp only [pay3_apply, hl, hh, sub_zero, zero_mul, Finset.sum_const_zero, zero_add, add_zero]
  refine congrArg (· * norm) ?_
  have h0 : ∀ x : Fin 128, (x : ℕ) / 128 = 0 := fun x => by omega
  have h1 : ∀ x : Fin 128, (128 + (x : ℕ)) / 128 = 1 := fun x => by omega
  have m0 : ∀ x : Fin 128, (x : ℕ) % 128 = x := fun x => by omega
  have m1 : ∀ x : Fin 128, (128 + (x : ℕ)) % 128 = x := fun x => by omega
  simp only [h0, h1, m0, m1]
  rcases (by omega : (q : ℕ) % 2 = 0 ∨ (q : ℕ) % 2 = 1) with e | e
  · simp [e]
  · simp [e]

/-- The signed column that term `j` of the Hadamard sum for column `k` reads: half `k % 2`, group `k / 256`. -/
def rotCol (k : Fin 8192) (j : Fin 128) : Fin 8192 := ⟨(k : ℕ) % 2 * 4096 + (k : ℕ) / 256 * 128 + j, by omega⟩

/-- The rotated activations: column `256 g + 2 i + a` is the Hadamard sum of column `i` over the 128 signed columns
    of group `g` in half `a`. -/
def rotAt (x : Vec Ideal S256x8192 .bf16) (s : Vec Ideal S1x8192 .f32) (r : Fin 256) (k : Fin 8192) : EReal :=
  (∑ j : Fin 128, x (ix2 r (rotCol k j)) * s (ix2 0 (rotCol k j)) * ((sgn j ((k : ℕ) % 256 / 2) : ℝ) : EReal)) * norm

/-- The rotated activations as an array. -/
def rotated (x : Vec Ideal S256x8192 .bf16) (s : Vec Ideal S1x8192 .f32) : Vec Ideal S256x8192 .bf16 := fun y => rotAt x s (y 0) (y 1)

/-- Block `g` computed from columns `128 g …` of each half is columns `256 g …` of the rotated activations. -/
theorem rotBlock_eq_rotated (g : ℕ) (hg : g < 32)
    (i1 : ∀ a, (![0, 128 * g] : Fin 2 → ℕ) a + S256x128.size a ≤ S256x8192.size a)
    (i2 : ∀ a, (![0, 128 * g] : Fin 2 → ℕ) a + S1x128.size a ≤ S1x8192.size a)
    (i3 : ∀ a, (![0, 4096 + 128 * g] : Fin 2 → ℕ) a + S256x128.size a ≤ S256x8192.size a)
    (i4 : ∀ a, (![0, 4096 + 128 * g] : Fin 2 → ℕ) a + S1x128.size a ≤ S1x8192.size a)
    (i5 : ∀ a, (![0, 256 * g] : Fin 2 → ℕ) a + S256x256.size a ≤ S256x8192.size a)
    (x : Vec Ideal S256x8192 .bf16) (s : Vec Ideal S1x8192 .f32)
    (h : ∀ r k, x (ix2 r k) * s (ix2 0 k) - x (ix2 r k) * s (ix2 0 k) = 0) (y : S256x256.Idx) :
    rotBlock (F := Ideal) (View.ld x (Rect.unit ![0, 128 * g] S256x128.size i1)) (View.ld s (Rect.unit ![0, 128 * g] S1x128.size i2))
        (View.ld x (Rect.unit ![0, 4096 + 128 * g] S256x128.size i3)) (View.ld s (Rect.unit ![0, 4096 + 128 * g] S1x128.size i4)) y
      = rotated x s ((Rect.unit (s := S256x8192) ![0, 256 * g] S256x256.size i5).emb y) := by
  obtain ⟨r, q, rfl⟩ : ∃ (r q : Fin 256), y = ix2 r q := ⟨y 0, y 1, eq_ix2 y⟩
  have e1 : ∀ (r : Fin 256) (j : Fin 128), View.ld x (Rect.unit ![0, 128 * g] S256x128.size i1) (ix2 r j) = x (ix2 r ⟨128 * g + j, by omega⟩) := by
    intro r j; pointwise
  have e2 : ∀ (j : Fin 128), View.ld s (Rect.unit ![0, 128 * g] S1x128.size i2) (ix2 0 j) = s (ix2 0 ⟨128 * g + j, by omega⟩) := by
    intro j; pointwise
  have e3 : ∀ (r : Fin 256) (j : Fin 128), View.ld x (Rect.unit ![0, 4096 + 128 * g] S256x128.size i3) (ix2 r j) = x (ix2 r ⟨4096 + 128 * g + j, by omega⟩) := by
    intro r j; pointwise
  have e4 : ∀ (j : Fin 128), View.ld s (Rect.unit ![0, 4096 + 128 * g] S1x128.size i4) (ix2 0 j) = s (ix2 0 ⟨4096 + 128 * g + j, by omega⟩) := by
    intro j; pointwise
  rw [rotBlock_apply _ _ _ _ (fun r j => by rw [e1, e2]; exact h _ _) (fun r j => by rw [e3, e4]; exact h _ _)]
  simp only [e1, e2, e3, e4]
  have h0 : (((Rect.unit (s := S256x8192) ![0, 256 * g] S256x256.size i5).emb (ix2 r q) : S256x8192.Idx) 0 : Fin 256) = r :=
    Fin.ext (by show 0 + 1 * (r : ℕ) = r; omega)
  have h1 : (((Rect.unit (s := S256x8192) ![0, 256 * g] S256x256.size i5).emb (ix2 r q) : S256x8192.Idx) 1 : Fin 8192) = (⟨256 * g + q, by omega⟩ : Fin 8192) :=
    Fin.ext (by show 256 * g + 1 * (q : ℕ) = 256 * g + q; omega)
  refine Eq.trans ?_ (congrArg₂ (rotAt x s) h0 h1).symm
  unfold rotAt
  dsimp only
  have a3 : (256 * g + (q : ℕ)) % 256 = q := by omega
  rw [a3]
  refine congrArg (· * norm) (Finset.sum_congr rfl fun j _ => congrArg (· * _) ?_)
  have key : ∀ (k k' : Fin 8192), (k : ℕ) = k' → x (ix2 r k) * s (ix2 0 k) = x (ix2 r k') * s (ix2 0 k') := by
    intro k k' e; rw [Fin.ext e]
  rcases (by omega : (q : ℕ) % 2 = 0 ∨ (q : ℕ) % 2 = 1) with e | e
  · rw [if_pos e]; exact key _ _ (by dsimp only [rotCol]; omega)
  · rw [if_neg (by omega)]; exact key _ _ (by dsimp only [rotCol]; omega)

end Cert.Proof
-- ==== Proof.PointA.lean ====
module

public import proofs.«01_k».proof.Proof.PointB
public import proofs.«01_k».proof.Proof.Rotation

@[expose] public section

set_option maxRecDepth 16384

noncomputable section

open Idealize.ShloMosaic Idealize.ShloMosaic.TcCoe Idealize.SL.Sem

namespace Cert.Proof

open Cert.KernelIdeal Cert.KernelIdeal.Gen

/-- The 128 columns of group `g` in the low half of the activations lie in the array. -/
theorem act_lo_inb (g : Fin 32) : ∀ a, (![0, 128 * (g : ℕ)] : Fin 2 → ℕ) a + S256x128.size a ≤ S256x8192.size a := by revert g; decide
/-- The 128 columns of group `g` in the low half of the signs lie in the array. -/
theorem sign_lo_inb (g : Fin 32) : ∀ a, (![0, 128 * (g : ℕ)] : Fin 2 → ℕ) a + S1x128.size a ≤ S1x8192.size a := by revert g; decide
/-- The 128 columns of group `g` in the high half of the activations lie in the array. -/
theorem act_hi_inb (g : Fin 32) : ∀ a, (![0, 4096 + 128 * (g : ℕ)] : Fin 2 → ℕ) a + S256x128.size a ≤ S256x8192.size a := by revert g; decide
/-- The 128 columns of group `g` in the high half of the signs lie in the array. -/
theorem sign_hi_inb (g : Fin 32) : ∀ a, (![0, 4096 + 128 * (g : ℕ)] : Fin 2 → ℕ) a + S1x128.size a ≤ S1x8192.size a := by revert g; decide
/-- The 256 columns of rotated block `g` lie in the carried array. -/
theorem rot_inb (g : Fin 32) : ∀ a, (![0, 256 * (g : ℕ)] : Fin 2 → ℕ) a + S256x256.size a ≤ S256x8192.size a := by revert g; decide

variable {F : FTy → Type} [FloatOps F]

/-- Block `g` of the rotated activations, as a store into the carried array. -/
def rotPiece (x : Vec F S256x8192 .bf16) (s : Vec F S1x8192 .f32) (g : Fin 32) : View.Piece (Elt F) S256x8192 .bf16 :=
  ⟨Rect.unit (s := S256x8192) ![0, 256 * (g : ℕ)] S256x256.size (rot_inb g),
    rotBlock (F := F) (View.ld x (Rect.unit ![0, 128 * (g : ℕ)] S256x128.size (act_lo_inb g))) (View.ld s (Rect.unit ![0, 128 * (g : ℕ)] S1x128.size (sign_lo_inb g)))
        (View.ld x (Rect.unit ![0, 4096 + 128 * (g : ℕ)] S256x128.size (act_hi_inb g))) (View.ld s (Rect.unit ![0, 4096 + 128 * (g : ℕ)] S1x128.size (sign_hi_inb g)))⟩

/-- Each of the 32 stores into the carried array holds the rotated activations at the columns it covers. -/
theorem rotPieces_apply (x : Vec Ideal S256x8192 .bf16) (s : Vec Ideal S1x8192 .f32)
    (h : ∀ r k, x (ix2 r k) * s (ix2 0 k) - x (ix2 r k) * s (ix2 0 k) = 0) :
    ∀ p ∈ (List.finRange 32).reverse.map (rotPiece x s), ∀ y : p.1.shape.Idx, p.2 y = rotated x s (p.1.emb y) := by
  intro p hp
  obtain ⟨g, -, rfl⟩ := List.mem_map.1 hp
  exact rotBlock_eq_rotated g g.isLt (act_lo_inb g) (sign_lo_inb g) (act_hi_inb g) (sign_hi_inb g) (rot_inb g) x s h

section
variable (c : Dev nD) (i : grid0.Coords) (arg1 : Memref sig .tc .vmem S256x8192 .bf16) (harg1 : arg1.IsWhole) (arg2 : Memref sig .tc .vmem S4096x512 .i8) (harg2 : arg2.IsWhole) (arg3 : Memref sig .tc .vmem S64x512 .bf16) (harg3 : arg3.IsWhole) (arg4 : Memref sig .tc .vmem S1x8192 .f32) (harg4 : arg4.IsWhole) (arg5 : Memref sig .tc .vmem S256x512 .bf16) (harg5 : arg5.IsWhole) (arg6 : Memref sig .tc .vmem S256x8192 .bf16) (harg6 : arg6.IsWhole) (arg7 : Memref sig .tc .vmem S8192x512 .bf16) (harg7 : arg7.IsWhole) (hc0 : cond0_0 i)
    (x0 : Vec Ideal S256x8192 .bf16) (x1 : Vec Ideal S4096x512 .i8) (x2 : Vec Ideal S64x512 .bf16) (x3 : Vec Ideal S1x8192 .f32)

set_option maxHeartbeats 4000000 in
/-- At the point that rotates, the carried array ends as the rotated activations. -/
theorem sout_A (h : ∀ r k, x0 (ix2 r k) * x3 (ix2 0 k) - x0 (ix2 r k) * x3 (ix2 0 k) = 0) :
    sout0_A_0 c i arg1 harg1 arg2 harg2 arg3 harg3 arg4 harg4 arg5 harg5 arg6 harg6 arg7 harg7 hc0 x0 x1 x2 x3 = rotated x0 x3 := by
  have hcov := scover0_A_0 c i arg1 harg1 arg2 harg2 arg3 harg3 arg4 harg4 arg5 harg5 arg6 harg6 arg7 harg7 hc0 x0 x1 x2 x3
  unfold sout0_A_0
  rw [View.read_writes_eq_canon _ _ _ hcov]
  refine funext fun y => View.canon_apply_of_pieces (rotated x0 x3) _ ?_ y (hcov y)
  clear hcov
  unfold kernelRun0_A
  dsimp only
  sl_unfold_words
  simp only [View.readAt_eq_ld, harg1.read_unread, harg4.read_unread]
  exact rotPieces_apply x0 x3 h

set_option maxHeartbeats 4000000 in
/-- At the point that rotates, the output block is the product of the rotated activations and the unpacked weights. -/
theorem out_A (h : ∀ r k, x0 (ix2 r k) * x3 (ix2 0 k) - x0 (ix2 r k) * x3 (ix2 0 k) = 0) :
    out0_A_4 c i arg1 harg1 arg2 harg2 arg3 harg3 arg4 harg4 arg5 harg5 arg6 harg6 arg7 harg7 hc0 x0 x1 x2 x3 = k0_pay2 (rotated x0 x3) (weights x1 x2) := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg1.read_unread, harg2.read_unread, harg3.read_unread, harg4.read_unread, View.ld_unit_zero (S := S64x512) hz]
  refine congrArg₂ k0_pay2 ?_ ?_
  · exact readCov_of_pieces (S := S256x8192) _ hz _ _ _ (View.cover_of_tiledL _ S256x256.size (by sl_kernel_rfl)) (rotPieces_apply x0 x3 h)
  · exact readCov_of_pieces (S := S8192x512) _ hz _ _ _ (View.cover_of_tiledL _ S256x512.size (by sl_kernel_rfl)) (weightPieces_apply x1 x2)

end

end Cert.Proof
-- ==== Proof.Result.lean ====
module

public import proofs.«01_k».proof.Proof.PointA
public import proofs.«01_k».proof.Proof.Gen.KernelIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Proof

open Cert.KernelIdeal Cert.KernelIdeal.Gen

/-- The rotated activation at row `r`, column `k`, from the argument arrays. -/
def act (x : Vec Ideal S256x1x8192 .bf16) (s : Vec Ideal S8192 .f32) (r : Fin 256) (k : Fin 8192) : EReal :=
  (∑ j : Fin 128, x (ix3 r 0 (rotCol k j)) * s (ix1 (rotCol k j)) * ((sgn j ((k : ℕ) % 256 / 2) : ℝ) : EReal)) * norm

/-- The unpacked weight at row `k`, column `n`, from the argument arrays. -/
def weight (p : Vec Ideal S4096x7168 .i8) (s : Vec Ideal S64x7168 .bf16) (k : Fin 8192) (n : Fin 7168) : EReal :=
  code ((k : ℕ) % 2) (p (ix2 ⟨(k : ℕ) / 256 * 128 + (k : ℕ) % 256 / 2, by omega⟩ n)) * s (ix2 ⟨(k : ℕ) % 2 * 32 + (k : ℕ) / 256, by omega⟩ n)

/-- What both programs return: rotated activations times unpacked weights. -/
def result (x : Vec Ideal S256x1x8192 .bf16) (p : Vec Ideal S4096x7168 .i8) (s : Vec Ideal S64x7168 .bf16) (sg : Vec Ideal S8192 .f32) :
    Vec Ideal S256x7168 .bf16 := fun y => ∑ k : Fin 8192, act x sg (y 0) k * weight p s k (y 1)

/-- An element of a point's matrix product, as a sum over the 8192 contracted columns. -/
theorem pay2_apply (a : Vec Ideal S256x8192 .bf16) (w : Vec Ideal S8192x512 .bf16) (r : Fin 256) (n : Fin 512) :
    k0_pay2 (F := Ideal) a w (ix2 r n) = ∑ k : Fin 8192, a (ix2 r k) * w (ix2 k n) := by
  unfold k0_pay2
  pointwise

variable (m : (ℓ : Loc nD τ sig) → Buf (Elt Ideal) ℓ)

/-- Which block each window stages at each point: the activations and the signs whole, of the packed words, the scales
    and the result the columns of the point. -/
theorem idx_facts : ∀ t : Fin cfg0.N, win0_0.index t = ![0, 0] ∧ win0_1.index t = ![0, t.val] ∧ win0_2.index t = ![0, t.val]
    ∧ win0_3.index t = ![0, 0] ∧ win0_4.index t = ![0, t.val] :=
  (by decide +kernel : ∀ t : Fin grid0.N, _)

/-- The activations a point reads are the argument, its middle axis of one dropped. -/
theorem iblk0_apply (c : Dev nD) (t : Fin cfg0.N) (r : Fin 256) (k : Fin 8192) :
    (iblk m c 0 t : Vec Ideal S256x8192 .bf16) (ix2 r k) = m ((c : Thread nD τ).loc main_arg0) (ix3 r 0 k) := by
  blk_ext! [iblk, V, idx_facts t]

/-- The packed words point `t` reads are columns `512 t …` of the argument. -/
theorem iblk1_apply (c : Dev nD) (t : Fin cfg0.N) (i : Fin 4096) (n : Fin 512) (h : 512 * t.val + n < 7168) :
    (iblk m c 1 t : Vec Ideal S4096x512 .i8) (ix2 i n) = m ((c : Thread nD τ).loc main_arg1) (ix2 i ⟨512 * t.val + n, h⟩) := by
  blk_ext! [iblk, V, idx_facts t]

/-- The scales point `t` reads are columns `512 t …` of the argument. -/
theorem iblk2_apply (c : Dev nD) (t : Fin cfg0.N) (i : Fin 64) (n : Fin 512) (h : 512 * t.val + n < 7168) :
    (iblk m c 2 t : Vec Ideal S64x512 .bf16) (ix2 i n) = m ((c : Thread nD τ).loc main_arg2) (ix2 i ⟨512 * t.val + n, h⟩) := by
  blk_ext! [iblk, V, idx_facts t]

/-- The signs a point reads are the argument, as one row. -/
theorem iblk3_apply (c : Dev nD) (t : Fin cfg0.N) (k : Fin 8192) :
    (iblk m c 3 t : Vec Ideal S1x8192 .f32) (ix2 0 k) = m ((c : Thread nD τ).loc main_arg3) (ix1 k) := by
  blk_ext! [iblk, V, idx_facts t]

/-- Every product of an activation and its sign cancels against itself: what finite inputs give. -/
def Cancels (x : Vec Ideal S256x1x8192 .bf16) (s : Vec Ideal S8192 .f32) : Prop :=
  ∀ (r : Fin 256) (k : Fin 8192), x (ix3 r 0 k) * s (ix1 k) - x (ix3 r 0 k) * s (ix1 k) = 0

/-- The activations a point reads are the whole argument, so what it rotates does not depend on the point. -/
theorem rotAt_iblk (c : Dev nD) (t : Fin cfg0.N) (r : Fin 256) (k : Fin 8192) :
    rotAt (iblk m c 0 t) (iblk m c 3 t) r k = act (m ((c : Thread nD τ).loc main_arg0)) (m ((c : Thread nD τ).loc main_arg3)) r k := by
  unfold rotAt act
  simp only [iblk0_apply, iblk3_apply]

/-- The weights point `t` unpacks are columns `512 t …` of the unpacked weights. -/
theorem weights_iblk (c : Dev nD) (t : Fin cfg0.N) (k : Fin 8192) (n : Fin 512) (h : 512 * t.val + n < 7168) :
    weights (iblk m c 1 t) (iblk m c 2 t) (ix2 k n)
      = weight (m ((c : Thread nD τ).loc main_arg1)) (m ((c : Thread nD τ).loc main_arg2)) k ⟨512 * t.val + n, h⟩ := by
  unfold weights weight
  exact congrArg₂ (· * ·) (congrArg _ (iblk1_apply m c t _ n h)) (iblk2_apply m c t _ n h)

/-- The rotated activations as an array over the argument arrays. -/
def acts (c : Dev nD) : Vec Ideal S256x8192 .bf16 := fun y =>
  act (m ((c : Thread nD τ).loc main_arg0)) (m ((c : Thread nD τ).loc main_arg3)) (y 0) (y 1)

/-- The rotated activations of any point's blocks are those of the argument arrays. -/
theorem rotated_iblk (c : Dev nD) (t : Fin cfg0.N) : rotated (iblk m c 0 t) (iblk m c 3 t) = acts m c :=
  funext fun y => rotAt_iblk m c t (y 0) (y 1)

/-- If the products of the argument arrays cancel, so do those of the blocks a point reads. -/
theorem iblk_cancels (c : Dev nD) (hc : Cancels (m ((c : Thread nD τ).loc main_arg0)) (m ((c : Thread nD τ).loc main_arg3))) (t : Fin cfg0.N)
    (x : Vec Ideal S256x8192 .bf16) (hx : x = iblk m c 0 t) (s : Vec Ideal S1x8192 .f32) (hs : s = iblk m c 3 t) :
    ∀ r k, x (ix2 r k) * s (ix2 0 k) - x (ix2 r k) * s (ix2 0 k) = 0 := by
  intro r k
  rw [hx, hs, iblk0_apply, iblk3_apply]
  exact hc r k

/-- After every point the output block is the product of the rotated activations and the point's unpacked weights, and
    the carried array holds the rotated activations: written at the first point, kept at the others. -/
theorem outsAt_eq (c : Dev nD) (hc : Cancels (m ((c : Thread nD τ).loc main_arg0)) (m ((c : Thread nD τ).loc main_arg3))) :
    ∀ (n : ℕ) (hn : n < cfg0.N), outsAt0 m c n hn
      = (k0_pay2 (acts m c) (weights (iblk m c 1 ⟨n, hn⟩) (iblk m c 2 ⟨n, hn⟩)), acts m c) := by
  intro n
  induction n with
  | zero =>
    intro hn
    rw [outsAt0_A m c ⟨0, hn⟩ (Nat.zero_mod _), out_A, sout_A, rotated_iblk]
    all_goals exact iblk_cancels m c hc _ _ rfl _ rfl
  | succ n ih =>
    intro hn
    have hN := lt_of_lt_of_eq hn (show cfg0.N = 14 from N_0)
    have h0 : ¬(n + 1) % 14 = 0 := by omega
    rw [outsAt0_B m c ⟨n + 1, hn⟩ h0, out_B]
    unfold sout0_B_0
    simp only [Nat.add_sub_cancel]
    rw [ih]

/-- What the kernel's result array ends holding. -/
theorem final_eq (c : Dev nD) (hc : Cancels (m ((c : Thread nD τ).loc main_arg0)) (m ((c : Thread nD τ).loc main_arg3))) :
    (dats m 0 c).arrAt 4 cfg0.N
      = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 14 := lt_of_lt_of_eq t.isLt (show cfg0.N = 14 from N_0)
  rw [after0_4, outsAt_eq m c hc]
  obtain ⟨r, n, rfl⟩ : ∃ (r : Fin 256) (n : Fin 512), y = ix2 r n := ⟨y 0, y 1, eq_ix2 (show S256x512.Idx from y)⟩
  refine (pay2_apply _ _ r n).trans ?_
  have hb : 512 * t.val + (n : ℕ) < 7168 := by omega
  have he : ((cfg0.win 4).blk t).view.emb (ix2 r n) = (ix2 r ⟨512 * t.val + n, hb⟩ : S256x7168.Idx) := by
    blk_ext! [idx_facts t]
  rw [he]
  exact Finset.sum_congr rfl fun k _ => congrArg (_ * ·) (weights_iblk m c t k n hb)

end Cert.Proof
-- ==== Proof.RefActs.lean ====
module

public import proofs.«01_k».proof.Proof.Result
public import proofs.«01_k».proof.Proof.Gen.ReferenceIdeal.Read
public import Idealize.ShloMosaic.Lib.Pointwise

@[expose] public section

set_option maxRecDepth 16384

noncomputable section

open Idealize.ShloMosaic

namespace Cert.Proof

open Cert.ReferenceIdeal Cert.ReferenceIdeal.Gen Cert.ReferenceIdeal.Read

/-- Every product of an activation and its sign is a real number: what finite inputs give. -/
def RealProducts (x : Vec Ideal S256x1x8192 .bf16) (s : Vec Ideal S8192 .f32) : Prop :=
  ∀ (r : Fin 256) (k : Fin 8192), ∃ v : ℝ, x (ix3 r 0 k) * s (ix1 k) = (v : EReal)

/-- A product that is a real number cancels against itself. -/
theorem RealProducts.cancels {x : Vec Ideal S256x1x8192 .bf16} {s : Vec Ideal S8192 .f32} (h : RealProducts x s) : Cancels x s := by
  intro r k
  obtain ⟨v, e⟩ := h r k
  rw [e, ← EReal.coe_sub, sub_self, EReal.coe_zero]

/-- The normalising factor is a real number. -/
theorem norm_real : ∃ c : ℝ, norm = (c : EReal) := by
  unfold norm Ideal.ofBits Ideal.ieee
  dsimp only
  rw [if_neg (by decide), if_neg (by decide)]
  exact ⟨_, rfl⟩

/-- The reference's sign of a seven-bit word, from its count of ones, is the kernel's, from its bits xored together:
    for each of the 128 words, by computing. -/
theorem popcount_sign : ∀ b : Fin 128,
    IntOp.subi 1#32 (IntOp.muli 2#32 (IntOp.andi (IntOp.ctpop (BitVec.ofNat 32 b)) 1#32)) = signWord (BitVec.ofNat 32 b) := by
  decide +kernel

/-- The reference's Hadamard sign at row `j`, column `i` is the kernel's. -/
theorem ref_sgn (j i : Fin 128) :
    (FloatOps.sitofp (F := Ideal) .f32 (IntOp.subi 1#32 (IntOp.muli 2#32 (IntOp.andi (IntOp.ctpop (IntOp.andi (BitVec.ofNat 32 j) (BitVec.ofNat 32 i))) 1#32))) : EReal)
      = ((sgn j i : ℝ) : EReal) := by
  have e : IntOp.andi (BitVec.ofNat 32 j) (BitVec.ofNat 32 i) = BitVec.ofNat 32 ((j : ℕ) &&& (i : ℕ)) := by
    simp [IntOp.andi, BitVec.ofNat_and]
  have e' : BitVec.ofNat 32 j &&& BitVec.ofNat 32 i = BitVec.ofNat 32 ((j : ℕ) &&& (i : ℕ)) := e
  unfold sgn
  rw [e, e', popcount_sign ⟨(j : ℕ) &&& (i : ℕ), lt_of_le_of_lt Nat.and_le_left j.isLt⟩]
  rfl

/-- A finite sum of real numbers is the same taken among the extended reals. -/
theorem coe_sum (f : Fin 128 → ℝ) : ((∑ j : Fin 128, f j : ℝ) : EReal) = ∑ j : Fin 128, (f j : EReal) :=
  map_sum (⟨⟨Real.toEReal, EReal.coe_zero⟩, EReal.coe_add⟩ : ℝ →+ EReal) f Finset.univ

/-- A real factor moves out of a sum of real products. -/
theorem sum_factor (f g : Fin 128 → EReal) (c : EReal) (hf : ∀ j, ∃ v : ℝ, f j = v) (hg : ∀ j, ∃ v : ℝ, g j = v) (hc : ∃ v : ℝ, c = v) :
    ∑ j : Fin 128, f j * (g j * c) = (∑ j : Fin 128, f j * g j) * c := by
  choose f' hf using hf
  choose g' hg using hg
  obtain ⟨c', rfl⟩ := hc
  simp only [hf, hg, ← EReal.coe_mul, ← coe_sum]
  refine congrArg _ ?_
  rw [Finset.sum_mul]
  exact Finset.sum_congr rfl fun j _ => (mul_assoc _ _ _).symm

/-- A Hadamard sum over 128 columns from column `o`, the factor inside, is the rotated activation at column `k`, when
    `o` is where `k`'s sum begins. -/
theorem act_of_sum (x : Vec Ideal S256x1x8192 .bf16) (s : Vec Ideal S8192 .f32) (h : RealProducts x s) (r : Fin 256) (i : Fin 128) (k : Fin 8192)
    (o : Fin 128 → Fin 8192) (ho : ∀ j, o j = rotCol k j) (hi : (k : ℕ) % 256 / 2 = i) :
    ∑ j : Fin 128, x (ix3 r 0 (o j)) * s (ix1 (o j))
        * ((FloatOps.sitofp (F := Ideal) .f32 (IntOp.subi 1#32 (IntOp.muli 2#32 (IntOp.andi (IntOp.ctpop (IntOp.andi (BitVec.ofNat 32 j) (BitVec.ofNat 32 i))) 1#32))) : EReal)
          * Ideal.ofBits .f32 1035273459#32)
      = act x s r k := by
  unfold act
  rw [hi, show o = rotCol k from funext ho]
  refine (sum_factor _ _ _ (fun j => h r _) (fun j => ⟨sgn j i, ref_sgn j i⟩) norm_real).trans ?_
  simp only [ref_sgn]
  try rfl

/-- The reference's low-half activations: group `g`, column `i`, is the rotated activation at column `256 g + 2 i`. -/
theorem ref_acts_lo (x0 : Vec Ideal S256x1x8192 .bf16) (x3 : Vec Ideal S8192 .f32) (h : RealProducts x0 x3) (r : Fin 256) (g : Fin 32) (i : Fin 128) :
    val_main_v23 (F := Ideal) x0 x3 (ix3 r g i) = act x0 x3 r ⟨256 * g + 2 * i, by omega⟩ := by
  unfold val_main_v23 val_main_v22 val_main_v21 val_main_v20 val_main_v19 val_main_v18 val_main_v17 val_main_v16 val_main_v15 val_main_v13 val_main_v12 val_main_v10 val_main_v8 val_main_v6 val_main_v5 val_main_v4 val_main_v3 val_main_v2 val_main_v1 val_main_v0 val_main_v11 val_main_v9 val_main_v7 val_main_v14 val_main_cst val_main_c val_main_c_0 val_main_c_1
  pointwise
  exact act_of_sum x0 x3 h r i _ _ (fun j => Fin.ext (by dsimp only [rotCol]; omega)) (by dsimp only; omega)

/-- The reference's high-half activations: group `g`, column `i`, is the rotated activation at column `256 g + 2 i + 1`. -/
theorem ref_acts_hi (x0 : Vec Ideal S256x1x8192 .bf16) (x3 : Vec Ideal S8192 .f32) (h : RealProducts x0 x3) (r : Fin 256) (g : Fin 32) (i : Fin 128) :
    val_main_v24 (F := Ideal) x0 x3 (ix3 r g i) = act x0 x3 r ⟨256 * g + 2 * i + 1, by omega⟩ := by
  unfold val_main_v24 val_main_v22 val_main_v21 val_main_v20 val_main_v19 val_main_v18 val_main_v17 val_main_v16 val_main_v15 val_main_v13 val_main_v12 val_main_v10 val_main_v8 val_main_v6 val_main_v5 val_main_v4 val_main_v3 val_main_v2 val_main_v1 val_main_v0 val_main_v11 val_main_v9 val_main_v7 val_main_v14 val_main_cst val_main_c val_main_c_0 val_main_c_1
  pointwise
  exact act_of_sum x0 x3 h r i _ _ (fun j => Fin.ext (by dsimp only [rotCol]; omega)) (by dsimp only; omega)

end Cert.Proof
-- ==== Proof.RefWeights.lean ====
module

public import proofs.«01_k».proof.Proof.Result
public import proofs.«01_k».proof.Proof.Gen.ReferenceIdeal.Read
public import Idealize.ShloMosaic.Lib.Pointwise

@[expose] public section

set_option maxRecDepth 16384

noncomputable section

open Idealize.ShloMosaic

namespace Cert.Proof

open Cert.ReferenceIdeal Cert.ReferenceIdeal.Gen Cert.ReferenceIdeal.Read

/-- A byte's low four bits, shifted up and back down as a signed word, are its code 0: for every byte, by computing. -/
theorem host_code_lo : ∀ b : BitVec 8,
    IntOp.shrsi .host (IntOp.shli .host (b.setWidth 32) 28#32) 28#32 = (b.setWidth 32 <<< 28).sshiftRight 28 := by decide +kernel

/-- A byte's high four bits, likewise, are its code 1. -/
theorem host_code_hi : ∀ b : BitVec 8,
    IntOp.shrsi .host (IntOp.shli .host (b.setWidth 32) 24#32) 28#32 = (b.setWidth 32 <<< 24).sshiftRight 28 := by decide +kernel

/-- The weight at row `k`, with `k`'s code, packed row and scale row under names of their own. -/
theorem weight_of (p : Vec Ideal S4096x7168 .i8) (s : Vec Ideal S64x7168 .bf16) (k : Fin 8192) (n : Fin 7168) (i : Fin 4096) (q : Fin 64) (a : ℕ)
    (ha : (k : ℕ) % 2 = a) (hi : (i : ℕ) = (k : ℕ) / 256 * 128 + (k : ℕ) % 256 / 2) (hq : (q : ℕ) = (k : ℕ) % 2 * 32 + (k : ℕ) / 256) :
    weight p s k n = code a (p (ix2 i n)) * s (ix2 q n) := by
  subst ha
  obtain ⟨i, _⟩ := i
  obtain ⟨q, _⟩ := q
  dsimp only at hi hq
  subst hi hq
  rfl

/-- A low code times its scale is the weight at an even row `k`, the packed row and the scale row being `k`'s. -/
theorem weight_of_lo (p : Vec Ideal S4096x7168 .i8) (s : Vec Ideal S64x7168 .bf16) (k : Fin 8192) (n : Fin 7168) (i : Fin 4096) (q : Fin 64)
    (ha : (k : ℕ) % 2 = 0) (hi : (i : ℕ) = (k : ℕ) / 256 * 128 + (k : ℕ) % 256 / 2) (hq : (q : ℕ) = (k : ℕ) / 256) :
    (FloatOps.sitofp (F := Ideal) .bf16 (IntOp.shrsi .host (IntOp.shli .host ((p (ix2 i n)).setWidth 32) 28#32) 28#32) : EReal) * s (ix2 q n)
      = weight p s k n := by
  rw [host_code_lo]
  rw [weight_of p s k n i q 0 ha hi (by omega)]
  rfl

/-- A high code times its scale is the weight at an odd row `k`, the packed row and the scale row being `k`'s. -/
theorem weight_of_hi (p : Vec Ideal S4096x7168 .i8) (s : Vec Ideal S64x7168 .bf16) (k : Fin 8192) (n : Fin 7168) (i : Fin 4096) (q : Fin 64)
    (ha : (k : ℕ) % 2 = 1) (hi : (i : ℕ) = (k : ℕ) / 256 * 128 + (k : ℕ) % 256 / 2) (hq : (q : ℕ) = 32 + (k : ℕ) / 256) :
    (FloatOps.sitofp (F := Ideal) .bf16 (IntOp.shrsi .host (IntOp.shli .host ((p (ix2 i n)).setWidth 32) 24#32) 28#32) : EReal) * s (ix2 q n)
      = weight p s k n := by
  rw [host_code_hi]
  rw [weight_of p s k n i q 1 ha hi (by omega)]
  rfl

/-- Left half of the columns, low codes: the weight at row `256 g + 2 i`. -/
theorem ref_weights_left_lo (x1 : Vec Ideal S4096x7168 .i8) (x2 : Vec Ideal S64x7168 .bf16) (g : Fin 32) (i : Fin 128) (n : Fin 3584) :
    val_main_v37 (F := Ideal) x1 x2 (ix3 g i n) = weight x1 x2 ⟨256 * g + 2 * i, by omega⟩ ⟨n, by omega⟩ := by
  unfold val_main_v37 val_main_v36 val_main_v35 val_main_v34 val_main_v33 val_main_v32 val_main_v31 val_main_v30 val_main_v29 val_main_v28 val_main_v27 val_main_v26 val_main_v25 val_main_c_2 val_main_c_3
  pointwise
  exact weight_of_lo x1 x2 _ _ _ _ (by dsimp only; omega) (by dsimp only; omega) (by dsimp only; omega)

/-- Left half of the columns, high codes: the weight at row `256 g + 2 i + 1`. -/
theorem ref_weights_left_hi (x1 : Vec Ideal S4096x7168 .i8) (x2 : Vec Ideal S64x7168 .bf16) (g : Fin 32) (i : Fin 128) (n : Fin 3584) :
    val_main_v48 (F := Ideal) x1 x2 (ix3 g i n) = weight x1 x2 ⟨256 * g + 2 * i + 1, by omega⟩ ⟨n, by omega⟩ := by
  unfold val_main_v48 val_main_v47 val_main_v46 val_main_v45 val_main_v44 val_main_v43 val_main_v42 val_main_v41 val_main_v40 val_main_v39 val_main_v38 val_main_v26 val_main_v25 val_main_c_4 val_main_c_5
  pointwise
  exact weight_of_hi x1 x2 _ _ _ _ (by dsimp only; omega) (by dsimp only; omega) (by dsimp only; omega)

/-- Right half of the columns, low codes: the weight at row `256 g + 2 i`. -/
theorem ref_weights_right_lo (x1 : Vec Ideal S4096x7168 .i8) (x2 : Vec Ideal S64x7168 .bf16) (g : Fin 32) (i : Fin 128) (n : Fin 3584) :
    val_main_v65 (F := Ideal) x1 x2 (ix3 g i n) = weight x1 x2 ⟨256 * g + 2 * i, by omega⟩ ⟨3584 + n, by omega⟩ := by
  unfold val_main_v65 val_main_v64 val_main_v63 val_main_v62 val_main_v61 val_main_v60 val_main_v59 val_main_v58 val_main_v57 val_main_v56 val_main_v55 val_main_v54 val_main_v53 val_main_c_6 val_main_c_7
  pointwise
  exact weight_of_lo x1 x2 _ _ _ _ (by dsimp only; omega) (by dsimp only; omega) (by dsimp only; omega)

/-- Right half of the columns, high codes: the weight at row `256 g + 2 i + 1`. -/
theorem ref_weights_right_hi (x1 : Vec Ideal S4096x7168 .i8) (x2 : Vec Ideal S64x7168 .bf16) (g : Fin 32) (i : Fin 128) (n : Fin 3584) :
    val_main_v76 (F := Ideal) x1 x2 (ix3 g i n) = weight x1 x2 ⟨256 * g + 2 * i + 1, by omega⟩ ⟨3584 + n, by omega⟩ := by
  unfold val_main_v76 val_main_v75 val_main_v74 val_main_v73 val_main_v72 val_main_v71 val_main_v70 val_main_v69 val_main_v68 val_main_v67 val_main_v66 val_main_v54 val_main_v53 val_main_c_8 val_main_c_9
  pointwise
  exact weight_of_hi x1 x2 _ _ _ _ (by dsimp only; omega) (by dsimp only; omega) (by dsimp only; omega)

end Cert.Proof
-- ==== Proof.Equation.lean ====
module

public import proofs.«01_k».proof.Proof.RefActs
public import proofs.«01_k».proof.Proof.RefWeights

@[expose] public section

set_option maxRecDepth 16384

noncomputable section

open Idealize.ShloMosaic

namespace Cert.Proof

open Cert.ReferenceIdeal Cert.ReferenceIdeal.Gen Cert.ReferenceIdeal.Read

/-- The contraction taken apart: a sum over the 8192 rows is the sum over the even ones plus the sum over the odd ones,
    each by its group `g` and its place `i` in the group. -/
theorem sum_rows (f : Fin 8192 → EReal) :
    ∑ k : Fin 8192, f k = ∑ g : Fin 32, ∑ i : Fin 128, f ⟨256 * g + 2 * i, by omega⟩
      + ∑ g : Fin 32, ∑ i : Fin 128, f ⟨256 * g + 2 * i + 1, by omega⟩ := by
  rw [← Finset.sum_add_distrib, ← Fin.sum_mul_add_fin 32 256 f]
  refine Finset.sum_congr rfl fun g _ => ?_
  rw [← Finset.sum_add_distrib, ← Fin.sum_mul_add_fin 128 2 fun l : Fin 256 => f ⟨(g : ℕ) * 256 + l, by omega⟩]
  refine Finset.sum_congr rfl fun i _ => ?_
  rw [Fin.sum_univ_two]
  exact congrArg₂ (· + ·) (congrArg f (Fin.ext (by show (g : ℕ) * 256 + ((i : ℕ) * 2 + 0) = 256 * g + 2 * i; omega)))
    (congrArg f (Fin.ext (by show (g : ℕ) * 256 + ((i : ℕ) * 2 + 1) = 256 * g + 2 * i + 1; omega)))

/-- The reference's result is the rotated activations times the unpacked weights. -/
theorem ref_eq (x0 : Vec Ideal S256x1x8192 .bf16) (x1 : Vec Ideal S4096x7168 .i8) (x2 : Vec Ideal S64x7168 .bf16) (x3 : Vec Ideal S8192 .f32)
    (h : RealProducts x0 x3) : val_main_v81 (F := Ideal) x0 x1 x2 x3 = result x0 x1 x2 x3 := by
  funext y
  obtain ⟨r, n, rfl⟩ : ∃ (r : Fin 256) (n : Fin 7168), y = ix2 r n := ⟨y 0, y 1, eq_ix2 y⟩
  show _ = ∑ k : Fin 8192, act x0 x3 r k * weight x1 x2 k n
  rw [sum_rows]
  unfold val_main_v81 val_main_v80 val_main_v79 val_main_v78 val_main_v77 val_main_v52 val_main_v51 val_main_v50 val_main_v49
  pointwise
  simp only [ref_acts_lo x0 x3 h, ref_acts_hi x0 x3 h, ref_weights_left_lo, ref_weights_left_hi, ref_weights_right_lo, ref_weights_right_hi]
  split_ifs with hn
  · rfl
  · have e : ∀ hb, (⟨3584 + ((n : ℕ) - 3584), hb⟩ : Fin 7168) = n := fun hb => Fin.ext (by dsimp only; omega)
    simp only [e]
  · rename_i h1
    exact absurd rfl h1

end Cert.Proof
-- ==== Proof.Finite.lean ====
module

public import proofs.«01_k».proof.Defs
public import proofs.«01_k».proof.Proof.RefActs
public import Idealize.ShloMosaic.Lib.Pointwise

@[expose] public section

set_option maxRecDepth 16384

noncomputable section

open Idealize.ShloMosaic

namespace Cert.Proof

/-- The shape relations the precondition's two broadcasts state. -/
theorem pre_facts : Cert.Pre_finite_inputs.Facts where
  bcast_S_S256x1x8192 := by decide
  bcast_S_S8192 := by decide

/-- The 16-bit pattern `0x7F80` is positive infinity. -/
theorem inf_bf16 : Ideal.ofBits .bf16 0x7F80#16 = ⊤ := by simp [Ideal.ofBits, Ideal.ieee]

/-- The 32-bit pattern `0x7F800000` is positive infinity. -/
theorem inf_f32 : Ideal.ofBits .f32 0x7F800000#32 = ⊤ := by simp [Ideal.ofBits, Ideal.ieee]

/-- A value whose magnitude compares below infinity is a real number. -/
theorem real_of_abs_lt (x : EReal) (h : Ideal.cmp .olt (max x (-x)) ⊤ = 1#1) : ∃ v : ℝ, x = (v : EReal) := by
  induction x with
  | bot => simp [Ideal.cmp] at h
  | top => simp [Ideal.cmp] at h
  | coe v => exact ⟨v, rfl⟩

/-- The precondition makes every product of an activation and its sign a real number. -/
theorem realProducts_of_pre (m : (ℓ : Loc Cert.KernelIdeal.nD Cert.KernelIdeal.τ Cert.KernelIdeal.sig) → Buf (Elt Ideal) ℓ)
    (h : Cert.Pre_KernelIdeal_finite_inputs (hPre_finite_inputs := pre_facts) m) (c : Dev Cert.KernelIdeal.nD) :
    RealProducts (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) := by
  intro r k
  obtain ⟨hx, hs⟩ := h c
  have hx' := congrFun hx (ix3 r 0 k)
  have hs' := congrFun hs (ix1 k)
  obtain ⟨v, ev⟩ := real_of_abs_lt (m ((c.tc : Thread Cert.KernelIdeal.nD Cert.KernelIdeal.τ).loc Cert.KernelIdeal.main_arg0) (ix3 r 0 k)) (by
    rw [← inf_bf16]; exact hx')
  obtain ⟨w, ew⟩ := real_of_abs_lt (m ((c.tc : Thread Cert.KernelIdeal.nD Cert.KernelIdeal.τ).loc Cert.KernelIdeal.main_arg3) (ix1 k)) (by
    rw [← inf_f32]; exact hs')
  exact ⟨v * w, (congrArg₂ (· * ·) ev ew).trans (EReal.coe_mul v w).symm⟩

end Cert.Proof
-- ==== Proof.lean ====
module

public import proofs.«01_k».proof.Defs
public import proofs.«01_k».proof.Proof.Gen.Kernel.Frame
public import proofs.«01_k».proof.Proof.Gen.ReferenceIdeal.Run
public import proofs.«01_k».proof.Proof.Equation
public import proofs.«01_k».proof.Proof.Finite
public import Idealize.ShloMosaic.Lib.Bf16Pair
public import Idealize.ShloMosaic.Lib.Quiescent

@[expose] public section

open Idealize.ShloMosaic Idealize.SL.Sem

namespace Cert.Proof

/-- The reference runs, leaves its arguments unchanged and, having no semaphore, ends with every counter zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's two kinds of changed windows compute what the original's do: a 16-bit float read as its
    pattern keeps that pattern, and the words paired from two halves read as interleaved rows of the halves. -/
theorem preserves : Cert.preserves_Kernel_KernelIdeal :=
  ⟨IdealRules.bf16_pair.halfStatement _, IdealRules.bf16_pair.statement _ _⟩

/-- At exact arithmetic, from finite activations and signs, the kernel and the reference end with the same array: the
    rotated activations times the unpacked weights. -/
theorem algebraic : Cert.algebraic_KernelIdeal_ReferenceIdeal_pre_finite_inputs (hPre_finite_inputs := pre_facts) := by
  intro m ρ m' ρ' hpre hagree
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run Cert.KernelIdeal.defs _ _).mono
      (fun r h c => ⟨(h c).1.trans (final_eq m c (realProducts_of_pre m hpre c).cancels), (h c).2⟩)
      (Cert.KernelIdeal.Value.run_blocks m ρ)
  · refine (θ_run Cert.ReferenceIdeal.defs _ _).mono
      (fun r h c => ⟨(h c).1.trans ((Cert.ReferenceIdeal.Read.val_main_v81_eq m' c).trans ?_), (h c).2⟩)
      (Cert.ReferenceIdeal.Value.run (F := Ideal) m' ρ')
    rw [(hagree c).1, (hagree c).2.1, (hagree c).2.2.1, (hagree c).2.2.2]
    exact ref_eq _ _ _ _ (realProducts_of_pre m hpre c)

/-- Everything claimed: the three frames (two of them again under the precondition), the idealization's rewrites, and
    the equation of the two results. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof
